-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x96x224x224 : Shape := ⟨4, ![8, 96, 224, 224]⟩
abbrev S86016x2x224 : Shape := ⟨3, ![86016, 2, 224]⟩
abbrev S86016x112 : Shape := ⟨2, ![86016, 112]⟩
abbrev S8x2x224 : Shape := ⟨3, ![8, 2, 224]⟩
abbrev S8x112 : Shape := ⟨2, ![8, 112]⟩
abbrev S8x1x224 : Shape := ⟨3, ![8, 1, 224]⟩
abbrev S8x224 : Shape := ⟨2, ![8, 224]⟩
abbrev S224x224 : Shape := ⟨2, ![224, 224]⟩
abbrev S1x224x224 : Shape := ⟨3, ![1, 224, 224]⟩
abbrev S8x224x1 : Shape := ⟨3, ![8, 224, 1]⟩
abbrev S8x224x224 : Shape := ⟨3, ![8, 224, 224]⟩
abbrev S1x1x112 : Shape := ⟨3, ![1, 1, 112]⟩
abbrev S1x224x1 : Shape := ⟨3, ![1, 224, 1]⟩
abbrev S8x224x112 : Shape := ⟨3, ![8, 224, 112]⟩
abbrev S8x96x112x112 : Shape := ⟨4, ![8, 96, 112, 112]⟩

abbrev nBuf : Space → Nat
  | .hbm => 4
  | .vmem => 4
  | .smem => 0
  | _ => 0

abbrev bufTy : (tb : Table) → Fin (tcTables nBuf tb) → BufTy
  | .hbm, ⟨0, _⟩ => ⟨S8x96x224x224, .f32⟩
  | .hbm, ⟨1, _⟩ => ⟨S86016x2x224, .f32⟩
  | .hbm, ⟨2, _⟩ => ⟨S86016x112, .f32⟩
  | .hbm, ⟨3, _⟩ => ⟨S8x96x112x112, .f32⟩
  | .local _ .vmem, ⟨0, _⟩ => ⟨S8x2x224, .f32⟩
  | .local _ .vmem, ⟨1, _⟩ => ⟨S8x2x224, .f32⟩
  | .local _ .vmem, ⟨2, _⟩ => ⟨S8x112, .f32⟩
  | .local _ .vmem, ⟨3, _⟩ => ⟨S8x112, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![10752], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x112 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x96x224x224 : Shape := ⟨4, ![8, 96, 224, 224]⟩
abbrev S_ : Shape := ⟨0, ![]⟩
abbrev S8x96x112x112 : Shape := ⟨4, ![8, 96, 112, 112]⟩

abbrev nBuf : Space → Nat
  | .hbm => 11
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S8x96x224x224, .i32⟩
  | .hbm, ⟨2, _⟩ => ⟨S8x96x224x224, .f32⟩
  | .hbm, ⟨3, _⟩ => ⟨S8x96x224x224, .i32⟩
  | .hbm, ⟨4, _⟩ => ⟨S8x96x224x224, .f32⟩
  | .hbm, ⟨5, _⟩ => ⟨S_, .f32⟩
  | .hbm, ⟨6, _⟩ => ⟨S_, .f32⟩
  | .hbm, ⟨7, _⟩ => ⟨S8x96x112x112, .f32⟩
  | .hbm, ⟨8, _⟩ => ⟨S_, .f32⟩
  | .hbm, ⟨9, _⟩ => ⟨S8x96x112x112, .f32⟩
  | .hbm, ⟨10, _⟩ => ⟨S8x96x112x112, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1_0 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Proof.Ranks.lean ====
/-
  RANKS AND STABLE SORTING (pure mathematics, no program).  For keys `f` on the positions `0 … n-1`:

  * `rank f j` counts the positions that come before `j`: a smaller key, or an equal key at an earlier position.
  * `order f i` is the position a stable sort by the keys puts at place `i`.

  The two are inverse to each other (`rank_order`), so summing the positions `j` whose `rank f j / 2` is `w` gives
  the two positions that the sort puts at places `2w` and `2w + 1` (`sum_rank_half`).
-/
module

public import Idealize.ShloMosaic.Lib.SortPrefix
public import Mathlib.Algebra.BigOperators.Fin
public import Mathlib.Algebra.BigOperators.Ring.Finset
public import Mathlib.Order.Interval.Finset.Fin

@[expose] public section

namespace Cert.Ranks

open Idealize.ShloMosaic

variable {n : Nat} {κ : Type} [LinearOrder κ] (f : Fin n → κ)

/-- Position `i` comes before position `j`: its key is smaller, or the keys are equal and `i` is the earlier one. -/
def before (i j : Fin n) : Bool := decide (f i < f j) || (decide (f i = f j) && decide (i < j))

/-- How many positions come before `j`, the way a kernel counts them: strictly smaller keys at every position, and
    keys that are not larger at the earlier positions. -/
def rank (j : Fin n) : Nat := ∑ i : Fin n, if f i < f j ∨ (f i ≤ f j ∧ i < j) then 1 else 0

/-- The position a stable sort by the keys puts at place `i`. -/
def order (i : Fin n) : Fin n := sortedFrom (fun k k' => decide (f k < f k')) i

/-- `before` is a strict total order on the positions. -/
theorem before_total : StrictTotalBefore (before f) :=
  StrictTotalBefore.of_key_then_position (fun a b : κ => decide (a < b)) f (fun a => by simp)
    (fun a b c hab hbc => by simp only [decide_eq_true_eq] at *; exact hab.trans hbc)
    (fun a b => by simp only [decide_eq_true_eq]; exact lt_trichotomy a b)

/-- The kernel's test is `before`. -/
theorem test_iff_before (i j : Fin n) : (f i < f j ∨ (f i ≤ f j ∧ i < j)) ↔ before f i j = true := by
  simp only [before, Bool.or_eq_true, Bool.and_eq_true, decide_eq_true_eq, le_iff_lt_or_eq]
  tauto

/-- On a list of positions in increasing order, the stable sort that compares the keys alone is the sort that
    compares the key and then the position: an element is only ever inserted among later positions. -/
theorem stableSort_keys (l : List (Fin n)) (hl : l.Pairwise (· < ·)) :
    stableSort (fun k k' => decide (f k < f k')) l = stableSort (before f) l := by
  induction l with
  | nil => rfl
  | cons a l ih =>
    rw [List.pairwise_cons] at hl
    unfold stableSort
    rw [ih hl.2]
    refine insertBefore_congr _ _ a _ fun b hb => ?_
    have hab : a < b := hl.1 b ((perm_stableSort (before f) l).mem_iff.mp hb)
    simp [before, not_lt.mpr hab.le]

/-- So the two sorts put the same position at every place. -/
theorem order_eq (i : Fin n) : order f i = sortedFrom (before f) i := by
  unfold order sortedFrom
  have h : sortPositions n (fun k k' => decide (f k < f k')) = sortPositions n (before f) :=
    stableSort_keys f _ (List.pairwise_lt_finRange n)
  rw [List.get_of_eq h]
  rfl

/-- No position is put at two places, -/
theorem order_injective : Function.Injective (order f) := sortedFrom_injective _

/-- and every position is put at one. -/
theorem order_bijective : Function.Bijective (order f) := ⟨sortedFrom_injective _, sortedFrom_surjective _⟩

/-- The sort is in order: the position at place `a` comes before the one at place `b` exactly when `a < b`. -/
theorem before_order (a b : Fin n) : before f (order f a) (order f b) = true ↔ a < b := by
  have hB := before_total f
  have key (i j : Fin n) (hij : i < j) : before f (order f i) (order f j) = true := by
    have h := sortedFrom_noInversion (before f) (before f) hB.asymm (fun _ _ h => h) hB.negTrans i j hij
    rw [← order_eq, ← order_eq] at h
    rcases hB.total _ _ ((order_injective f).ne hij.ne) with h' | h'
    · exact h'
    · rw [h'] at h; exact absurd h (by decide)
  refine ⟨fun h => ?_, key a b⟩
  by_contra hab
  rcases (not_lt.mp hab).eq_or_lt with e | hlt
  · subst e; rw [hB.irrefl] at h; exact absurd h (by decide)
  · rw [hB.asymm _ _ (key b a hlt)] at h; exact absurd h (by decide)

/-- The rank of the position at place `i` is `i`. -/
theorem rank_order (i : Fin n) : rank f (order f i) = i.val := by
  unfold rank
  rw [← (order_bijective f).sum_comp]
  simp only [test_iff_before, before_order]
  rw [Finset.sum_boole]
  simp [Finset.filter_gt_eq_Iio]

/-- A rank is below the number of positions. -/
theorem rank_lt (j : Fin n) : rank f j < n := by
  obtain ⟨i, rfl⟩ := (order_bijective f).surjective j
  rw [rank_order]
  exact i.isLt

/-- The positions whose rank, halved, is `w`, summed: the two positions the sort puts at places `2w` and `2w + 1`. -/
theorem sum_rank_half (w : Nat) (h : 2 * w + 1 < n) :
    (∑ j : Fin n, if rank f j / 2 = w then j.val else 0)
      = (order f ⟨2 * w, by omega⟩).val + (order f ⟨2 * w + 1, h⟩).val := by
  rw [← (order_bijective f).sum_comp]
  simp only [rank_order]
  have hne : (⟨2 * w, by omega⟩ : Fin n) ≠ ⟨2 * w + 1, h⟩ := fun e => by
    have := congrArg Fin.val e
    simp at this
  rw [← Finset.sum_pair (f := fun i => (order f i).val) hne, ← Finset.sum_filter]
  refine Finset.sum_congr (Finset.ext fun i => ?_) fun _ _ => rfl
  simp only [Finset.mem_filter, Finset.mem_univ, true_and, Finset.mem_insert, Finset.mem_singleton, Fin.ext_iff]
  omega

end Cert.Ranks

end
-- ==== Proof.Block.lean ====
/-
  ONE BLOCK OF THE KERNEL at the ideal instance.  A block is 8 pairs of rows of 224 numbers; the body turns it into
  8 rows of 112 numbers.  This file reads that computation at an index: entry `(r, w)` of the result is a quarter of
  `P 0 + P 1`, where `P s` is the sum of the positions whose rank in row `s` of pair `r`, halved, is `w`.
-/
module

public import proofs.«01_k».proof.Proof.Gen.KernelIdeal.Skeleton
public import proofs.«01_k».proof.Proof.Ranks
public import Idealize.ShloMosaic.Lib.Pipeline.Value
public import Idealize.ShloMosaic.Lib.ValueIdx
public import Idealize.ShloMosaic.Lib.WordSum

@[expose] public section

noncomputable section

namespace Cert.Block

open Idealize.ShloMosaic Idealize.ShloMosaic.ValueIdx Cert.KernelIdeal Cert.KernelIdeal.Gen

/-! ## The kernel's row pooling, as two functions of whole vectors -/

/-- The comparison array of 8 rows: bit `(r, i, j)` says whether position `i` of row `r` comes before position `j`. -/
def pairs (x : FVec Ideal S8x224 .f32) : IVec S8x224x224 1 :=
  ori
    (cmpf .olt (broadcastTo S8x224x224 (shapeCast S8x224x1 x shapeCasts_S8x224_S8x224x1) broadcasts_S8x224x1_S8x224x224)
      (broadcastTo S8x224x224 (shapeCast S8x1x224 x shapeCasts_S8x224_S8x1x224) broadcasts_S8x1x224_S8x224x224))
    (andi
      (cmpf .ole (broadcastTo S8x224x224 (shapeCast S8x224x1 x shapeCasts_S8x224_S8x224x1) broadcasts_S8x224x1_S8x224x224)
        (broadcastTo S8x224x224 (shapeCast S8x1x224 x shapeCasts_S8x224_S8x1x224) broadcasts_S8x1x224_S8x224x224))
      (broadcastTo S8x224x224
        (shapeCast S1x224x224
          (cmpi .slt (iota .tc S224x224 32 [0] iota_S224x224_d0_w32) (iota .tc S224x224 32 [1] iota_S224x224_d1_w32))
          shapeCasts_S224x224_S1x224x224)
        broadcasts_S1x224x224_S8x224x224))

/-- The ranks: the comparison array summed over its first position. -/
def ranks (b : IVec S8x224x224 1) : IVec S8x224 32 :=
  multiReductionI .add [1] S8x224 (extui 32 b natLt_1_32) 0#32 reduces_S8x224x224_S8x224 rfl

/-- For each place `w` of the result, the position `j` where the halved rank is `w` and zero elsewhere. -/
def chosen (k : IVec S8x224 32) : IVec S8x224x112 32 :=
  select
    (cmpi .eq
      (broadcastTo S8x224x112
        (shapeCast S8x224x1 (shrui k (broadcast S8x224 1#32)) shapeCasts_S8x224_S8x224x1)
        broadcasts_S8x224x1_S8x224x112)
      (broadcastTo S8x224x112 (iota .tc S1x1x112 32 [2] iota_S1x1x112_d2_w32) broadcasts_S1x1x112_S8x224x112))
    (broadcastTo S8x224x112
      (shapeCast S1x224x1 (iota .tc S1x224x1 32 [1] iota_S1x224x1_d1_w32) shapeCasts_S1x224x1_S1x224x1)
      broadcasts_S1x224x1_S8x224x112)
    (broadcast S8x224x112 0#32)

/-- The chosen positions summed, as words. -/
def pooled (k : IVec S8x224 32) : IVec S8x112 32 :=
  multiReductionI .add [1] S8x112 (chosen k) 0#32 reduces_S8x224x112_S8x112 rfl

/-- Row `0` of each of the block's pairs, -/
def row0 (v : Vec Ideal S8x2x224 .f32) : FVec Ideal S8x224 .f32 :=
  shapeCast S8x224
    (extractStridedSlice S8x1x224 ![0, 0, 0] (k0_pay2 v) slices_S8x2x224_o0_0_0_S8x1x224) shapeCasts_S8x1x224_S8x224

/-- and row `1`. -/
def row1 (v : Vec Ideal S8x2x224 .f32) : FVec Ideal S8x224 .f32 :=
  shapeCast S8x224
    (extractStridedSlice S8x1x224 ![0, 1, 0] (k0_pay2 v) slices_S8x2x224_o0_1_0_S8x1x224) shapeCasts_S8x1x224_S8x224

/-- What the body stores, in these terms. -/
theorem stored_eq (v : Vec Ideal S8x2x224 .f32) :
    k0_pay1 (k0_pay3 v) (k0_pay4 v)
      = mulf (addf (sitofp .f32 (pooled (ranks (pairs (row0 v))))) (sitofp .f32 (pooled (ranks (pairs (row1 v))))))
          (broadcast S8x112 (Scalar.ofBits (F := Ideal) .f32 0x3E800000#32)) := rfl

/-! ## Each of them at an index -/

/-- Row 0 of pair `r` at position `i`. -/
theorem row0_apply (v : Vec Ideal S8x2x224 .f32) (r : Fin 8) (i : Fin 224) :
    row0 v (ix2 r i) = v (ix3 r (0 : Fin 2) i) := by
  unfold row0 k0_pay2
  rw [shapeCast_self]
  refine (shapeCast_apply _ _ _ (ix3 r (0 : Fin 1) i) (by
    rw [Shape.rowMajor_val_three, Shape.rowMajor_val_two]
    show (r.val * 1 + 0) * 224 + i.val = r.val * 224 + i.val
    omega)).trans ?_
  exact extractStridedSlice_apply _ _ _ _ _ fun a => match a with
    | ⟨0, _⟩ => by show r.val = 0 + r.val; omega
    | ⟨1, _⟩ => by show 0 = 0 + 0; omega
    | ⟨2, _⟩ => by show i.val = 0 + i.val; omega

/-- Row 1 of pair `r` at position `i`. -/
theorem row1_apply (v : Vec Ideal S8x2x224 .f32) (r : Fin 8) (i : Fin 224) :
    row1 v (ix2 r i) = v (ix3 r (1 : Fin 2) i) := by
  unfold row1 k0_pay2
  rw [shapeCast_self]
  refine (shapeCast_apply _ _ _ (ix3 r (0 : Fin 1) i) (by
    rw [Shape.rowMajor_val_three, Shape.rowMajor_val_two]
    show (r.val * 1 + 0) * 224 + i.val = r.val * 224 + i.val
    omega)).trans ?_
  exact extractStridedSlice_apply _ _ _ _ _ fun a => match a with
    | ⟨0, _⟩ => by show r.val = 0 + r.val; omega
    | ⟨1, _⟩ => by show 1 = 1 + 0; omega
    | ⟨2, _⟩ => by show i.val = 0 + i.val; omega

/-- A row broadcast along the second position reads the first one, -/
theorem left_apply (x : FVec Ideal S8x224 .f32) (r : Fin 8) (i j : Fin 224) :
    broadcastTo S8x224x224 (shapeCast S8x224x1 x shapeCasts_S8x224_S8x224x1) broadcasts_S8x224x1_S8x224x224 (ix3 r i j)
      = x (ix2 r i) := by
  refine (broadcastTo_apply _ _ _ (ix3 r i (0 : Fin 1)) fun a => match a with
    | ⟨0, _⟩ => rfl
    | ⟨1, _⟩ => rfl
    | ⟨2, _⟩ => rfl).trans ?_
  exact shapeCast_apply _ _ _ _ (by
    rw [Shape.rowMajor_val_three, Shape.rowMajor_val_two]
    show r.val * 224 + i.val = (r.val * 224 + i.val) * 1 + 0
    omega)

/-- and along the first position the second one. -/
theorem right_apply (x : FVec Ideal S8x224 .f32) (r : Fin 8) (i j : Fin 224) :
    broadcastTo S8x224x224 (shapeCast S8x1x224 x shapeCasts_S8x224_S8x1x224) broadcasts_S8x1x224_S8x224x224 (ix3 r i j)
      = x (ix2 r j) := by
  refine (broadcastTo_apply _ _ _ (ix3 r (0 : Fin 1) j) fun a => match a with
    | ⟨0, _⟩ => rfl
    | ⟨1, _⟩ => rfl
    | ⟨2, _⟩ => rfl).trans ?_
  exact shapeCast_apply _ _ _ _ (by
    rw [Shape.rowMajor_val_three, Shape.rowMajor_val_two]
    show r.val * 224 + j.val = (r.val * 1 + 0) * 224 + j.val
    omega)

/-- Words of positions below 224 compare as the positions do. -/
theorem slt_word (i j : Nat) (hi : i < 224) (hj : j < 224) :
    IntOp.cmpi .slt (BitVec.ofNat 32 i) (BitVec.ofNat 32 j) = BitVec.ofBool (decide (i < j)) := by
  show BitVec.ofBool ((BitVec.ofNat 32 i).slt (BitVec.ofNat 32 j)) = _
  congr 1
  rw [BitVec.slt_eq_decide, BitVec.toInt_ofNat', BitVec.toInt_ofNat',
    Int.bmod_eq_of_le (by omega) (by omega), Int.bmod_eq_of_le (by omega) (by omega)]
  simp

/-- The position mask at `(i, j)`: whether `i < j`. -/
theorem mask_apply (r : Fin 8) (i j : Fin 224) :
    broadcastTo S8x224x224
        (shapeCast S1x224x224
          (cmpi .slt (iota .tc S224x224 32 [0] iota_S224x224_d0_w32) (iota .tc S224x224 32 [1] iota_S224x224_d1_w32))
          shapeCasts_S224x224_S1x224x224)
        broadcasts_S1x224x224_S8x224x224 (ix3 r i j)
      = BitVec.ofBool (decide (i < j)) := by
  refine (broadcastTo_apply _ _ _ (ix3 (0 : Fin 1) i j) fun a => match a with
    | ⟨0, _⟩ => rfl
    | ⟨1, _⟩ => rfl
    | ⟨2, _⟩ => rfl).trans ?_
  refine (shapeCast_apply _ _ _ (ix2 i j) (by
    rw [Shape.rowMajor_val_three, Shape.rowMajor_val_two]
    show i.val * 224 + j.val = (0 * 224 + i.val) * 224 + j.val
    omega)).trans ?_
  show IntOp.cmpi .slt (iota .tc S224x224 32 [0] iota_S224x224_d0_w32 (ix2 i j))
    (iota .tc S224x224 32 [1] iota_S224x224_d1_w32 (ix2 i j)) = _
  rw [iota_single_apply, iota_single_apply]
  exact slt_word _ _ i.isLt j.isLt

/-- The comparison array at an index is the test that `Ranks.rank` counts. -/
theorem pairs_apply (x : FVec Ideal S8x224 .f32) (r : Fin 8) (i j : Fin 224) :
    pairs x (ix3 r i j)
      = BitVec.ofBool (decide (x (ix2 r i) < x (ix2 r j) ∨ (x (ix2 r i) ≤ x (ix2 r j) ∧ i < j))) := by
  have hp (p : CmpFPredicate) := congrArg₂ (Ideal.cmp p) (left_apply x r i j) (right_apply x r i j)
  refine Eq.trans (b := IntOp.ori (Ideal.cmp .olt (x (ix2 r i)) (x (ix2 r j)))
    (IntOp.andi (Ideal.cmp .ole (x (ix2 r i)) (x (ix2 r j))) (BitVec.ofBool (decide (i < j))))) ?_ ?_
  · exact congrArg₂ IntOp.ori (hp .olt) (congrArg₂ IntOp.andi (hp .ole) (mask_apply r i j))
  · show BitVec.ofBool (decide _) ||| (BitVec.ofBool (decide _) &&& BitVec.ofBool (decide _)) = _
    rw [BitVec.ofBool_and_ofBool, BitVec.ofBool_or_ofBool, ← Bool.decide_and, ← Bool.decide_or]

/-! ## The two sums -/

/-- The comparison array's column above `(r, j)`. -/
theorem lift_ranks (r : Fin 8) (j k : Fin 224) :
    reduces_S8x224x224_S8x224.lift (ix2 r j) k = ix3 r k j := by
  funext a
  match a with
  | ⟨0, _⟩ => rfl
  | ⟨1, _⟩ => rfl
  | ⟨2, _⟩ => rfl

/-- The chosen positions' column above `(r, w)`. -/
theorem lift_pooled (r : Fin 8) (w : Fin 112) (k : Fin 224) :
    reduces_S8x224x112_S8x112.lift (ix2 r w) k = ix3 r k w := by
  funext a
  match a with
  | ⟨0, _⟩ => rfl
  | ⟨1, _⟩ => rfl
  | ⟨2, _⟩ => rfl

/-- A bit widened to a word counts one or zero. -/
theorem toNat_bit (p : Prop) [Decidable p] : ((BitVec.ofBool (decide p)).setWidth 32).toNat = if p then 1 else 0 := by
  by_cases h : p <;> simp [h]

/-- The kernel's rank word at `(r, j)` is the rank of position `j` in row `r`. -/
theorem ranks_apply (x : FVec Ideal S8x224 .f32) (r : Fin 8) (j : Fin 224) :
    (ranks (pairs x) (ix2 r j)).toNat = Ranks.rank (fun i : Fin 224 => x (ix2 r i)) j := by
  have hsum : ∑ i ∈ Finset.univ.filter (fun i => reduces_S8x224x224_S8x224.drop i = ix2 r j),
      (extui 32 (pairs x) natLt_1_32 i).toNat = Ranks.rank (fun i : Fin 224 => x (ix2 r i)) j := by
    rw [reduces_S8x224x224_S8x224.sum_filter_drop_single (fun i => (extui 32 (pairs x) natLt_1_32 i).toNat) (ix2 r j)]
    refine Finset.sum_congr rfl fun (k : Fin 224) _ => ?_
    refine (congrArg (fun i => (extui 32 (pairs x) natLt_1_32 i).toNat) (lift_ranks r j k)).trans ?_
    show ((pairs x (ix3 r k j)).setWidth 32).toNat = _
    rw [pairs_apply, toNat_bit]
  exact (WordSum.toNat_multiReductionI_add _ _ _ _ (by
    rw [hsum]; have := Ranks.rank_lt (fun i : Fin 224 => x (ix2 r i)) j; omega)).trans hsum

/-- The chosen word at `(r, j, w)`: `j` where the halved rank is `w`, else zero. -/
theorem chosen_apply (k : IVec S8x224 32) (r : Fin 8) (j : Fin 224) (w : Fin 112) :
    (chosen k (ix3 r j w)).toNat = if (k (ix2 r j)).toNat / 2 = w.val then j.val else 0 := by
  have h1 : broadcastTo S8x224x112
        (shapeCast S8x224x1 (shrui k (broadcast S8x224 1#32)) shapeCasts_S8x224_S8x224x1)
        broadcasts_S8x224x1_S8x224x112 (ix3 r j w) = IntOp.shrui .vector (k (ix2 r j)) 1#32 := by
    refine (broadcastTo_apply _ _ _ (ix3 r j (0 : Fin 1)) fun a => match a with
      | ⟨0, _⟩ => rfl
      | ⟨1, _⟩ => rfl
      | ⟨2, _⟩ => rfl).trans ?_
    exact shapeCast_apply _ _ _ (ix2 r j) (by
      rw [Shape.rowMajor_val_three, Shape.rowMajor_val_two]
      show r.val * 224 + j.val = (r.val * 224 + j.val) * 1 + 0
      omega)
  have h2 : broadcastTo S8x224x112 (iota .tc S1x1x112 32 [2] iota_S1x1x112_d2_w32) broadcasts_S1x1x112_S8x224x112
      (ix3 r j w) = BitVec.ofNat 32 w.val := by
    refine (broadcastTo_apply _ _ _ (ix3 (0 : Fin 1) (0 : Fin 1) w) fun a => match a with
      | ⟨0, _⟩ => rfl
      | ⟨1, _⟩ => rfl
      | ⟨2, _⟩ => rfl).trans ?_
    rw [iota_single_apply]
  have h3 : broadcastTo S8x224x112
      (shapeCast S1x224x1 (iota .tc S1x224x1 32 [1] iota_S1x224x1_d1_w32) shapeCasts_S1x224x1_S1x224x1)
      broadcasts_S1x224x1_S8x224x112 (ix3 r j w) = BitVec.ofNat 32 j.val := by
    rw [shapeCast_self]
    refine (broadcastTo_apply _ _ _ (ix3 (0 : Fin 1) j (0 : Fin 1)) fun a => match a with
      | ⟨0, _⟩ => rfl
      | ⟨1, _⟩ => rfl
      | ⟨2, _⟩ => rfl).trans ?_
    rw [iota_single_apply]
  have e : chosen k (ix3 r j w) = Scalar.select
      (IntOp.cmpi .eq (IntOp.shrui .vector (k (ix2 r j)) 1#32) (BitVec.ofNat 32 w.val)) (BitVec.ofNat 32 j.val) 0#32 := by
    refine Eq.trans ?_ (congrArg₂ (fun a b => Scalar.select a b 0#32) (congrArg₂ (IntOp.cmpi .eq) h1 h2) h3)
    rfl
  have hs : (IntOp.shrui .vector (k (ix2 r j)) 1#32).toNat = (k (ix2 r j)).toNat / 2 := by
    show ((k (ix2 r j)) >>> (1 : Nat)).toNat = _
    rw [BitVec.toNat_ushiftRight, Nat.shiftRight_eq_div_pow]
  have hw : (BitVec.ofNat 32 w.val).toNat = w.val := by
    rw [BitVec.toNat_ofNat]; exact Nat.mod_eq_of_lt (by have := w.isLt; omega)
  have hj : (BitVec.ofNat 32 j.val).toNat = j.val := by
    rw [BitVec.toNat_ofNat]; exact Nat.mod_eq_of_lt (by have := j.isLt; omega)
  rw [e]
  by_cases h : (k (ix2 r j)).toNat / 2 = w.val
  · have : IntOp.shrui .vector (k (ix2 r j)) 1#32 = BitVec.ofNat 32 w.val :=
      BitVec.eq_of_toNat_eq (by rw [hs, hw, h])
    rw [if_pos h, this]
    simp [IntOp.cmpi, Scalar.select, hj]
  · have : IntOp.shrui .vector (k (ix2 r j)) 1#32 ≠ BitVec.ofNat 32 w.val := fun e => h (by rw [← hs, e, hw])
    rw [if_neg h]
    have hb : (IntOp.shrui .vector (k (ix2 r j)) 1#32 == BitVec.ofNat 32 w.val) = false := beq_eq_false_iff_ne.mpr this
    simp [IntOp.cmpi, Scalar.select, hb]

/-- The sum of the positions whose rank in `f`, halved, is `w`. -/
def pool (f : Fin 224 → EReal) (w : Nat) : Nat := ∑ j : Fin 224, if Ranks.rank f j / 2 = w then j.val else 0

/-- It is at most a sum of 224 positions, each below 224. -/
theorem pool_lt (f : Fin 224 → EReal) (w : Nat) : pool f w < 2 ^ 31 := by
  have : pool f w ≤ ∑ _j : Fin 224, 224 := Finset.sum_le_sum fun j _ => by
    split
    · exact j.isLt.le
    · exact Nat.zero_le _
  rw [Finset.sum_const, Finset.card_univ, Fintype.card_fin, smul_eq_mul] at this
  omega

/-- The kernel's pooled word at `(r, w)` is that sum for row `r`. -/
theorem pooled_apply (x : FVec Ideal S8x224 .f32) (r : Fin 8) (w : Fin 112) :
    (pooled (ranks (pairs x)) (ix2 r w)).toNat = pool (fun i : Fin 224 => x (ix2 r i)) w.val := by
  have hsum : ∑ i ∈ Finset.univ.filter (fun i => reduces_S8x224x112_S8x112.drop i = ix2 r w),
      (chosen (ranks (pairs x)) i).toNat = pool (fun i : Fin 224 => x (ix2 r i)) w.val := by
    rw [reduces_S8x224x112_S8x112.sum_filter_drop_single (fun i => (chosen (ranks (pairs x)) i).toNat) (ix2 r w)]
    refine Finset.sum_congr rfl fun (k : Fin 224) _ => ?_
    refine (congrArg (fun i => (chosen (ranks (pairs x)) i).toNat) (lift_pooled r w k)).trans ?_
    rw [chosen_apply, ranks_apply]
  exact (WordSum.toNat_multiReductionI_add _ _ _ _ (by
    rw [hsum]; have := pool_lt (fun i : Fin 224 => x (ix2 r i)) w.val; omega)).trans hsum

/-- A word below `2 ^ 31` converts to the number it encodes. -/
theorem sitofp_word (b : BitVec 32) (h : b.toNat < 2 ^ 31) :
    (FloatOps.sitofp .f32 b : Ideal .f32) = ((b.toNat : ℝ) : EReal) := by
  show (((b.toInt : ℤ) : ℝ) : EReal) = _
  rw [BitVec.toInt_eq_toNat_of_lt (by omega)]
  norm_num

/-- The constant the kernel multiplies by is one quarter. -/
theorem quarter : (Scalar.ofBits (F := Ideal) .f32 0x3E800000#32 : EReal) = (((1 : ℝ) / 4 : ℝ) : EReal) := by
  show Ideal.ofBits .f32 0x3E800000#32 = _
  simp [Ideal.ofBits, Ideal.ieee, -EReal.coe_mul]; norm_num

/-- THE BLOCK: entry `(r, w)` of what the body stores. -/
theorem stored_apply (v : Vec Ideal S8x2x224 .f32) (r : Fin 8) (w : Fin 112) :
    k0_pay1 (k0_pay3 v) (k0_pay4 v) (ix2 r w)
      = ((((pool (fun i => v (ix3 r (0 : Fin 2) i)) w.val + pool (fun i => v (ix3 r (1 : Fin 2) i)) w.val : Nat) : ℝ) / 4
          : ℝ) : EReal) := by
  have h0 : (pooled (ranks (pairs (row0 v))) (ix2 r w)).toNat = pool (fun i => v (ix3 r (0 : Fin 2) i)) w.val := by
    rw [pooled_apply]; exact congrArg (fun f => pool f w.val) (funext fun i => row0_apply v r i)
  have h1 : (pooled (ranks (pairs (row1 v))) (ix2 r w)).toNat = pool (fun i => v (ix3 r (1 : Fin 2) i)) w.val := by
    rw [pooled_apply]; exact congrArg (fun f => pool f w.val) (funext fun i => row1_apply v r i)
  have s0 := sitofp_word (pooled (ranks (pairs (row0 v))) (ix2 r w)) (by rw [h0]; exact pool_lt _ _)
  have s1 := sitofp_word (pooled (ranks (pairs (row1 v))) (ix2 r w)) (by rw [h1]; exact pool_lt _ _)
  rw [h0] at s0
  rw [h1] at s1
  generalize pool (fun i => v (ix3 r (0 : Fin 2) i)) w.val = a at s0 ⊢
  generalize pool (fun i => v (ix3 r (1 : Fin 2) i)) w.val = b at s1 ⊢
  rw [stored_eq]
  refine (congrArg₂ (fun x y : EReal => x * y) (congrArg₂ (fun x y : EReal => x + y) s0 s1) quarter).trans ?_
  show (((a : ℝ) : EReal) + ((b : ℝ) : EReal)) * _ = _
  rw [← EReal.coe_add, ← EReal.coe_mul]
  exact congrArg Real.toEReal (by push_cast; ring)

end Cert.Block

end
-- ==== Proof.Array.lean ====
/-
  THE WHOLE KERNEL at the ideal instance.  The host lines view the argument as 86016 pairs of rows, the pipeline turns
  each pair into one row of 112 numbers, block by block (8 pairs a block), and the last host line views the 86016 rows
  as the result.  Here: what the pipeline's result array holds at the end, and from it what the program's result
  holds, index by index, as a function of the argument.
-/
module

public import proofs.«01_k».proof.Proof.Gen.KernelIdeal.Frame
public import proofs.«01_k».proof.Proof.Block
public import Idealize.ShloMosaic.Lib.StableHlo.Run

@[expose] public section

noncomputable section

namespace Cert.Array

open Idealize.ShloMosaic Idealize.ShloMosaic.TcCoe Idealize.ShloMosaic.ValueIdx Idealize.SL.Sem
open Idealize.ShloMosaic.Pipeline (Dat Window)
open Cert.KernelIdeal Cert.KernelIdeal.Gen Cert.Block

variable (m : (ℓ : Loc nD τ sig) → Buf (Elt Ideal) ℓ) (ρ : Dev nD → PrngReg)

/-- A quarter of the two rows' pooled positions at place `w`. -/
def quarterSum (f g : Fin 224 → EReal) (w : Nat) : EReal := ((((pool f w + pool g w : Nat) : ℝ) / 4 : ℝ) : EReal)

/-- The pooled rows of an array of 86016 pairs of rows: entry `(p, w)` is `quarterSum` of pair `p`'s two rows. -/
def pooledRows (A : S86016x2x224.Idx → EReal) (i : S86016x112.Idx) : EReal :=
  quarterSum (fun k => A (ix3 (i 0) (0 : Fin 2) k)) (fun k => A (ix3 (i 0) (1 : Fin 2) k)) (i 1).val

/-- The body's loads and stores start at offset zero: in two dimensions, -/
theorem zero2 : (![0, 0] : Fin 2 → Nat) = fun _ => 0 := funext fun a => by fin_cases a <;> rfl
/-- and in three. -/
theorem zero3 : (![0, 0, 0] : Fin 3 → Nat) = fun _ => 0 := funext fun a => by fin_cases a <;> rfl

/-! ## The two windows' index maps: block `t` starts at pair `8 t` -/

/-- Point `t` of the grid reads the argument's block `t`, -/
theorem index0_0 (t : Fin cfg0.N) : win0_0.index t 0 = t.val := by
  have ht : t.val < 10752 := lt_of_lt_of_eq t.isLt N_0
  show (BitVec.ofNat 32 (grid0.coords t 0).val).toNat = t.val
  have hc : (grid0.coords t 0).val = t.val := by
    show t.val / 1 % 10752 = t.val
    omega
  rw [hc, BitVec.toNat_ofNat]
  exact Nat.mod_eq_of_lt (by omega)

/-- and writes the result's block `t`. -/
theorem index0_1 (t : Fin cfg0.N) : win0_1.index t 0 = t.val := by
  have ht : t.val < 10752 := lt_of_lt_of_eq t.isLt N_0
  show (BitVec.ofNat 32 (grid0.coords t 0).val).toNat = t.val
  have hc : (grid0.coords t 0).val = t.val := by
    show t.val / 1 % 10752 = t.val
    omega
  rw [hc, BitVec.toNat_ofNat]
  exact Nat.mod_eq_of_lt (by omega)

/-! ## The pipeline's result array -/

/-- What point `t` writes back is block `t` of the pooled rows of the array the pipeline reads. -/
theorem flushed_eq (c : Dev nD) (t : Fin cfg0.N) :
    (dats m 0 c).flushed 1 t = (win0_1.blk t).view.read (Elt Ideal) (pooledRows (V m c main_v0)) := by
  show (cfg0.win 1).cut (grid0.coords t) ((dats m 0 c).after 1 t) = _
  rw [after0_1]
  unfold out0_1
  rw [View.canon_unit_zero zero2, View.ld_unit_zero zero3]
  funext y
  obtain ⟨r, w, rfl⟩ : ∃ (r : Fin 8) (w : Fin 112), y = ix2 r w := ⟨y 0, y 1, eq_ix2 y⟩
  have hread (s : Fin 2) (k : Fin 224) : iblk m c 0 t (ix3 r s k)
      = V m c main_v0 (ix3 ((win0_1.rect t).emb (ix2 r w) 0 : Fin 86016) s k) := by
    show V m c main_v0 ((win0_0.rect t).emb (ix3 r s k)) = _
    refine congrArg (V m c main_v0) (funext fun a => Fin.ext ?_)
    match a with
    | ⟨0, _⟩ =>
      show ((win0_0.rect t).emb (ix3 r s k) 0 : Nat) = ((win0_1.rect t).emb (ix2 r w) 0 : Nat)
      rw [Window.rect_emb_val win0_0 t, Window.rect_emb_val win0_1 t, index0_0, index0_1]
      rfl
    | ⟨1, _⟩ => exact Window.rect_emb_val_of_index_zero win0_0 t 1 rfl _
    | ⟨2, _⟩ => exact Window.rect_emb_val_of_index_zero win0_0 t 2 rfl _
  refine (stored_apply (iblk m c 0 t) r w).trans ?_
  show _ = pooledRows (V m c main_v0) ((win0_1.rect t).emb (ix2 r w))
  unfold pooledRows quarterSum
  simp only [hread]
  have hw : ((win0_1.rect t).emb (ix2 r w) 1).val = w.val := Window.rect_emb_val_of_index_zero win0_1 t 1 rfl (ix2 r w)
  rw [hw]

/-- An index of the result array is in point `t`'s block exactly when its row is one of the block's 8. -/
theorem mem_blk (t : Fin cfg0.N) (i : S86016x112.Idx) :
    i ∈ ((cfg0.win 1).blk t).view.set ↔ t.val * 8 ≤ (i 0 : Nat) ∧ (i 0 : Nat) < t.val * 8 + 8 := by
  show i ∈ ((View.whole main_v1).slice (win0_1.rect t)).set ↔ _
  rw [View.set_slice_whole, Rect.mem_set_unit]
  have h1 : (i 1 : Nat) < 112 := (i 1).isLt
  have e0 : win0_1.index t 0 * win0_1.size 0 = t.val * 8 := by rw [index0_1]; rfl
  refine ⟨fun h => ?_, fun h a => ?_⟩
  · have : win0_1.index t 0 * win0_1.size 0 ≤ (i 0 : Nat) ∧ (i 0 : Nat) < win0_1.index t 0 * win0_1.size 0 + 8 := h 0
    rw [e0] at this; exact this
  · match a with
    | ⟨0, _⟩ =>
      show win0_1.index t 0 * win0_1.size 0 ≤ (i 0 : Nat) ∧ (i 0 : Nat) < win0_1.index t 0 * win0_1.size 0 + 8
      rw [e0]; exact h
    | ⟨1, _⟩ =>
      show 0 * 112 ≤ (i 1 : Nat) ∧ (i 1 : Nat) < 0 * 112 + 112
      omega

/-- Every index of the result array is in some point's block. -/
theorem cover (i : S86016x112.Idx) :
    ∃ t : Fin cfg0.N, (cfg0.win 1).flush t = true ∧ i ∈ ((cfg0.win 1).blk t).view.set := by
  have h0 : (i 0 : Nat) < 86016 := (i 0).isLt
  have hN : cfg0.N = 10752 := N_0
  refine ⟨⟨(i 0 : Nat) / 8, by omega⟩, flush0_1 _, ?_⟩
  rw [mem_blk]
  dsimp only
  omega

/-- So the pipeline's result array ends holding the pooled rows of the array it reads. -/
theorem final (c : Dev nD) : (dats m 0 c).arrAt 1 cfg0.N = pooledRows (V m c main_v0) :=
  (dats m 0 c).arrAt_eq_of_cover 1 (pooledRows (V m c main_v0)) (fun t _ => flushed_eq m c t) cover

/-! ## The host lines around the pipeline -/

/-- The array the pipeline reads is the argument in row-major order, 86016 pairs of rows. -/
theorem entry_eq (c : Dev nD) : V m c main_v0
    = shapeCast S86016x2x224 (m ((c : Thread nD τ).loc main_arg0)) shapeCasts_S8x96x224x224_S86016x2x224 := by
  show StableHlo.after (List.flatten [hostOps0]) (fun b => m (c, b)) (Proc.devRef .tc main_v0) = _
  unfold hostOps0
  simp only [List.flatten_cons, List.flatten_nil, List.append_nil]
  after_results
  rfl

/-- The program's result is the pipeline's result array in row-major order. -/
theorem exit_eq (c : Dev nD) : Pipeline.afterTail₀ cfgs (dats m) 0 (V0 m) [hostOps1] c main_v2
    = shapeCast S8x96x112x112 (pooledRows (V m c main_v0)) shapeCasts_S86016x112_S8x96x112x112 := by
  unfold Pipeline.afterTail₀ hostOps1
  simp only [List.flatten_cons, List.flatten_nil, List.append_nil]
  after_results
  rw [← final m c]
  exact congrArg (fun A => shapeCast S8x96x112x112 A shapeCasts_S86016x112_S8x96x112x112)
    (Pipeline.withArrays_arr spec0 launch0.win.arr_inj c (V0 m c) (fun w => (dats m 0 c).arrAt w cfg0.N) 1)

/-! ## The program's result, index by index -/

/-- Entry `(b, c, h, w)` of the result from the argument `X`: `quarterSum` of rows `2h` and `2h + 1`. -/
def result (X : S8x96x224x224.Idx → EReal) (j : S8x96x112x112.Idx) : EReal :=
  quarterSum
    (fun k => X (ix4 (j 0) (j 1) (⟨2 * (j 2).val, by have : (j 2).val < 112 := (j 2).isLt; omega⟩ : Fin 224) k))
    (fun k => X (ix4 (j 0) (j 1) (⟨2 * (j 2).val + 1, by have : (j 2).val < 112 := (j 2).isLt; omega⟩ : Fin 224) k))
    (j 3).val

/-- The two row-major views around the pooled rows put pair `(96 b + c) * 112 + h` at `(b, c, h)`: together they are
    `result`. -/
theorem views_eq (X : S8x96x224x224.Idx → EReal) :
    shapeCast S8x96x112x112 (pooledRows (shapeCast S86016x2x224 X shapeCasts_S8x96x224x224_S86016x2x224))
      shapeCasts_S86016x112_S8x96x112x112 = result X := by
  funext j
  obtain ⟨b, c, h, w, rfl⟩ : ∃ (b : Fin 8) (c : Fin 96) (h w : Fin 112), j = ix4 b c h w :=
    ⟨j 0, j 1, j 2, j 3, eq_ix4 j⟩
  have hb := b.isLt
  have hc := c.isLt
  have hh := h.isLt
  have hp : (b.val * 96 + c.val) * 112 + h.val < 86016 := by omega
  refine (shapeCast_apply _ _ _ (ix2 (⟨(b.val * 96 + c.val) * 112 + h.val, hp⟩ : Fin 86016) w) (by
    rw [Shape.rowMajor_val_two, Shape.rowMajor_val_four]; rfl)).trans ?_
  have hrow (s : Fin 2) (hs : 2 * h.val + s.val < 224) (k : Fin 224) :
      shapeCast S86016x2x224 X shapeCasts_S8x96x224x224_S86016x2x224
          (ix3 (⟨(b.val * 96 + c.val) * 112 + h.val, hp⟩ : Fin 86016) s k)
        = X (ix4 b c (⟨2 * h.val + s.val, hs⟩ : Fin 224) k) :=
    shapeCast_apply _ _ _ _ (by
      rw [Shape.rowMajor_val_three, Shape.rowMajor_val_four]
      show ((b.val * 96 + c.val) * 224 + (2 * h.val + s.val)) * 224 + k.val
        = (((b.val * 96 + c.val) * 112 + h.val) * 2 + s.val) * 224 + k.val
      omega)
  exact congrArg₂ (fun f g => quarterSum f g w.val) (funext fun k => hrow 0 (by show 2 * h.val + 0 < 224; omega) k)
    (funext fun k => hrow 1 (by show 2 * h.val + 1 < 224; omega) k)

/-- THE RUN, READ: the kernel's result is `result` of its argument, and the argument is unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun _ h c =>
    ⟨((h c).2 main_v2 (Pipeline.mem_restRefs_of main_v2 (by decide) (by decide))).trans
        ((exit_eq m c).trans ((congrArg (fun A => shapeCast S8x96x112x112 (pooledRows A)
          shapeCasts_S86016x112_S8x96x112x112) (entry_eq m c)).trans (views_eq _))),
      ((h c).2 main_arg0 (Pipeline.mem_restRefs_of main_arg0 (by decide) (by decide))).trans (W_main_arg0 m (dats m) c)⟩)
    (run_main m ρ)

end Cert.Array

end
-- ==== Proof.Reference.lean ====
/-
  THE REFERENCE at the ideal instance: positions of a stable sort along each row, averaged over 2 × 2 windows.  Read
  at an index: entry `(b, c, h, w)` is a quarter of the four positions that the sorts of rows `2h` and `2h + 1` put at
  places `2w` and `2w + 1`.
-/
module

public import proofs.«01_k».proof.Proof.Gen.ReferenceIdeal.Run
public import proofs.«01_k».proof.Proof.Ranks
public import Idealize.ShloMosaic.Lib.Pipeline.Value
public import Idealize.ShloMosaic.Lib.Pointwise.Index
public import Idealize.ShloMosaic.Lib.ValueIdx
public import Idealize.ShloMosaic.PureOps.Ideal.Laws

@[expose] public section

noncomputable section

namespace Cert.Reference

open Idealize.ShloMosaic Idealize.ShloMosaic.TcCoe Idealize.SL.Sem
open Cert.ReferenceIdeal Cert.ReferenceIdeal.Gen

/-! ## The sort -/

/-- The reference replaces a zero key by zero before comparing: on extended reals that changes nothing. -/
theorem select_zero (a : EReal) :
    Scalar.select (Ideal.cmp .oeq a (Ideal.ofBits .f32 0x00000000#32)) (Ideal.ofBits .f32 0x00000000#32) a = a := by
  by_cases h : a = Ideal.ofBits .f32 0x00000000#32
  · rw [← h]; simp [Scalar.select]
  · rw [show Ideal.cmp .oeq a (Ideal.ofBits .f32 0x00000000#32) = 0#1 by simp only [Ideal.cmp, h]; rfl]
    simp [Scalar.select]

/-- It replaces an unordered key by a constant: no extended real differs from itself. -/
theorem select_une (a b : EReal) : Scalar.select (Ideal.cmp .une a a) b a = a := by
  simp [Scalar.select, Ideal.cmp]

/-- So the sort's comparator compares the keys. -/
theorem comparator_eq (l r : EReal × BitVec 32) :
    comparator_f32_i32_d3 (F := Ideal) l r = BitVec.ofBool (decide (l.1 < r.1)) := by
  have key (a : EReal) : Scalar.select (Ideal.cmp .une a a) (Ideal.ofBits .f32 0x7FC00000#32)
      (Scalar.select (Ideal.cmp .oeq a (Ideal.ofBits .f32 0x00000000#32)) (Ideal.ofBits .f32 0x00000000#32) a) = a := by
    rw [select_zero, select_une]
  exact congrArg₂ (Ideal.cmpTotal .lt) (key l.1) (key r.1)

/-- The sorted positions at an index: the word of the position the row's sort puts there. -/
theorem sorted_apply (X : S8x96x224x224.Idx → EReal) (b : Fin 8) (c : Fin 96) (h k : Fin 224) :
    (Host.sort2 S8x96x224x224 3 (comparator_f32_i32_d3 (F := Ideal)) X (iotaInDim S8x96x224x224 32 3)).2
        (ValueIdx.ix4 b c h k)
      = BitVec.ofNat 32 (Ranks.order (fun i : Fin 224 => X (ValueIdx.ix4 b c h i)) k).val := by
  have along (i : Fin 224) : Shape.Idx.along (s := S8x96x224x224) (ValueIdx.ix4 b c h k) 3 i = ValueIdx.ix4 b c h i := by
    funext a
    match a with
    | ⟨0, _⟩ => rfl
    | ⟨1, _⟩ => rfl
    | ⟨2, _⟩ => rfl
    | ⟨3, _⟩ => rfl
  have horder (i j : Fin 224) : (comparator_f32_i32_d3 (F := Ideal)
        (X (Shape.Idx.along (s := S8x96x224x224) (ValueIdx.ix4 b c h k) 3 i),
          iotaInDim S8x96x224x224 32 3 (Shape.Idx.along (s := S8x96x224x224) (ValueIdx.ix4 b c h k) 3 i))
        (X (Shape.Idx.along (s := S8x96x224x224) (ValueIdx.ix4 b c h k) 3 j),
          iotaInDim S8x96x224x224 32 3 (Shape.Idx.along (s := S8x96x224x224) (ValueIdx.ix4 b c h k) 3 j)) == 1#1)
      = decide (X (ValueIdx.ix4 b c h i) < X (ValueIdx.ix4 b c h j)) := by
    rw [comparator_eq]
    dsimp only
    rw [along i, along j]
    by_cases hlt : X (ValueIdx.ix4 b c h i) < X (ValueIdx.ix4 b c h j) <;> simp [hlt]
  have hsort := congrArg (fun B : Fin 224 → Fin 224 → Bool => sortedFrom B k)
    (funext fun i => funext fun j => horder i j)
  unfold Host.sort2
  rw [dif_pos (by decide)]
  refine (congrArg (iotaInDim S8x96x224x224 32 3)
    ((congrArg (Shape.Idx.along (s := S8x96x224x224) (ValueIdx.ix4 b c h k) 3) hsort).trans (along _))).trans ?_
  rfl

/-! ## The window sum -/

/-- A window's offset keeps it inside an axis that holds all the windows. -/
theorem inside (k i e n : Nat) (he : e < k) (hn : (i + 1) * k ≤ n) : i * k + e - 0 < n := by
  rw [Nat.add_mul, Nat.one_mul] at hn; omega

/-- Where a window of length one lies. -/
theorem place_one (i e : Nat) (he : e < 1) : i * 1 + e - 0 = i := by omega

/-- Where a place of a window of length two lies. -/
theorem place_two (i e : Nat) : i * 2 + e - 0 = 2 * i + e := by omega

/-- The 2 × 2 window sum at `(b, c, h, w)`: the four entries of rows `2h`, `2h + 1` and columns `2w`, `2w + 1`. -/
theorem window_apply (x : S8x96x224x224.Idx → EReal) (init : EReal) (hinit : init = 0)
    (hw : S8x96x224x224.ReduceWindows ![1, 1, 2, 2] ![1, 1, 2, 2] ![0, 0, 0, 0] ![0, 0, 0, 0] S8x96x112x112)
    (b : Fin 8) (c : Fin 96) (h w : Fin 112) :
    Ideal.hostReduceWindowAdd ![1, 1, 2, 2] ![1, 1, 2, 2] ![0, 0, 0, 0] ![0, 0, 0, 0] hw x init (ValueIdx.ix4 b c h w)
      = ∑ p : Fin 2, ∑ q : Fin 2, x (ValueIdx.ix4 b c
          (⟨2 * h.val + p.val, by have := h.isLt; have := p.isLt; omega⟩ : Fin 224)
          (⟨2 * w.val + q.val, by have := w.isLt; have := q.isLt; omega⟩ : Fin 224)) := by
  subst hinit
  have hb := b.isLt
  have hc := c.isLt
  have hh := h.isLt
  have hw' := w.isLt
  have e0 (e : (⟨4, ![1, 1, 2, 2]⟩ : Shape).Idx) : (e 0).val < 1 := (e 0).isLt
  have e1 (e : (⟨4, ![1, 1, 2, 2]⟩ : Shape).Idx) : (e 1).val < 1 := (e 1).isLt
  have e2 (e : (⟨4, ![1, 1, 2, 2]⟩ : Shape).Idx) : (e 2).val < 2 := (e 2).isLt
  have e3 (e : (⟨4, ![1, 1, 2, 2]⟩ : Shape).Idx) : (e 3).val < 2 := (e 3).isLt
  refine Eq.trans ?_ ((sum_idx_eq_foldl (⟨4, ![1, 1, 2, 2]⟩ : Shape) (fun e => x (ValueIdx.ix4 b c
    (⟨2 * h.val + (e 2).val, by have := e2 e; omega⟩ : Fin 224)
    (⟨2 * w.val + (e 3).val, by have := e3 e; omega⟩ : Fin 224)))).symm.trans ?_)
  · unfold Ideal.hostReduceWindowAdd Host.reduceWindow
    refine congrArg (fun F : EReal → Fin (⟨4, ![1, 1, 2, 2]⟩ : Shape).numel → EReal => List.foldl F 0 (List.finRange _))
      (funext fun r => funext fun n => congrArg (fun y : EReal => r + y) ?_)
    have h0 := e0 ((⟨4, ![1, 1, 2, 2]⟩ : Shape).rowMajor.symm n)
    have h1 := e1 ((⟨4, ![1, 1, 2, 2]⟩ : Shape).rowMajor.symm n)
    have h2 := e2 ((⟨4, ![1, 1, 2, 2]⟩ : Shape).rowMajor.symm n)
    have h3 := e3 ((⟨4, ![1, 1, 2, 2]⟩ : Shape).rowMajor.symm n)
    refine (dif_pos fun a => ?_).trans (congrArg x (funext fun a => Fin.ext ?_))
    · match a with
      | ⟨0, _⟩ => exact ⟨Nat.zero_le _, inside 1 b.val _ 8 h0 (by omega)⟩
      | ⟨1, _⟩ => exact ⟨Nat.zero_le _, inside 1 c.val _ 96 h1 (by omega)⟩
      | ⟨2, _⟩ => exact ⟨Nat.zero_le _, inside 2 h.val _ 224 h2 (by omega)⟩
      | ⟨3, _⟩ => exact ⟨Nat.zero_le _, inside 2 w.val _ 224 h3 (by omega)⟩
    · match a with
      | ⟨0, _⟩ => exact place_one b.val _ h0
      | ⟨1, _⟩ => exact place_one c.val _ h1
      | ⟨2, _⟩ => exact place_two h.val _
      | ⟨3, _⟩ => exact place_two w.val _
  · rw [sum_idx4]
    simp only [Fin.sum_univ_one]
    rfl

/-! ## The reference's result -/

/-- The divisor is four. -/
theorem four : (Ideal.ofBits .f32 0x40800000#32 : EReal) = ((4 : ℝ) : EReal) := by
  simp [Ideal.ofBits, Ideal.ieee, -EReal.coe_mul]; norm_num

/-- The number a position's word converts to. -/
theorem sitofp_position (n : Nat) (hn : n < 224) :
    (FloatOps.sitofp .f32 (BitVec.ofNat 32 n) : Ideal .f32) = ((n : ℝ) : EReal) := by
  show ((((BitVec.ofNat 32 n).toInt : ℤ) : ℝ) : EReal) = _
  rw [BitVec.toInt_ofNat', Int.bmod_eq_of_le (by omega) (by omega)]
  norm_num

/-- The reference's composed term, of its argument. -/
def term (X : S8x96x224x224.Idx → EReal) : FVec Ideal S8x96x112x112 .f32 :=
  Host.divf
    (Host.reduceWindowAdd ![1, 1, 2, 2] ![1, 1, 2, 2] ![0, 0, 0, 0] ![0, 0, 0, 0]
      (sitofp .f32 ((Host.sort2 S8x96x224x224 3 (comparator_f32_i32_d3 (F := Ideal)) X (iotaInDim S8x96x224x224 32 3)).2))
      (broadcastInDim S_ ![] bcast_S_S_ (constant (F := Ideal) S_ .f32 0x00000000#32))
      reduceWindows_S8x96x224x224_S8x96x112x112_w1s1p0_0_w1s1p0_0_w2s2p0_0_w2s2p0_0 h_S_)
    (broadcastInDim S8x96x112x112 ![] bcast_S_S8x96x112x112 (constant (F := Ideal) S_ .f32 0x40800000#32))

/-- THE REFERENCE at an index: the four sorted positions of its window, over four. -/
theorem term_apply (X : S8x96x224x224.Idx → EReal) (b : Fin 8) (c : Fin 96) (h w : Fin 112) :
    term X (ValueIdx.ix4 b c h w)
      = ((((∑ p : Fin 2, ∑ q : Fin 2, (Ranks.order (fun i : Fin 224 => X (ValueIdx.ix4 b c
            (⟨2 * h.val + p.val, by have := h.isLt; have := p.isLt; omega⟩ : Fin 224) i))
          (⟨2 * w.val + q.val, by have := w.isLt; have := q.isLt; omega⟩ : Fin 224)).val : Nat) : ℝ) / 4 : ℝ) : EReal) := by
  have hsum := window_apply
    (sitofp (F := Ideal) .f32 ((Host.sort2 S8x96x224x224 3 (comparator_f32_i32_d3 (F := Ideal)) X
      (iotaInDim S8x96x224x224 32 3)).2))
    (Ideal.ofBits .f32 0x00000000#32) Ideal.ofBits_zero_f32
    reduceWindows_S8x96x224x224_S8x96x112x112_w1s1p0_0_w1s1p0_0_w2s2p0_0_w2s2p0_0 b c h w
  simp only [ValueIdx.sitofp_apply, sorted_apply, sitofp_position _ (Fin.isLt _)] at hsum
  refine (congrArg₂ Ideal.div hsum four).trans ?_
  rw [Ideal.div_coe (by norm_num)]
  simp only [Fin.sum_univ_two, ← EReal.coe_add, ← EReal.coe_mul]
  exact congrArg Real.toEReal (by push_cast; ring)

end Cert.Reference

end
-- ==== Proof.Agree.lean ====
/-
  THE TWO PROGRAMS AGREE, as functions of the argument.  The kernel adds up the positions whose rank, halved, is `w`;
  the reference adds up the positions its stable sort puts at places `2w` and `2w + 1`.  Those are the same positions.
-/
module

public import proofs.«01_k».proof.Proof.Array
public import proofs.«01_k».proof.Proof.Reference

@[expose] public section

noncomputable section

namespace Cert.Agree

open Idealize.ShloMosaic Cert.ReferenceIdeal

/-- A row's pooled positions are the two positions its sort puts at places `2w` and `2w + 1`. -/
theorem pool_eq (f : Fin 224 → EReal) (w : Fin 112) :
    Block.pool f w.val = ∑ q : Fin 2, (Ranks.order f
      (⟨2 * w.val + q.val, by have := w.isLt; have := q.isLt; omega⟩ : Fin 224)).val := by
  rw [Fin.sum_univ_two]
  exact Ranks.sum_rank_half f w.val (by have := w.isLt; omega)

/-- The reference's term is the kernel's result, at every index. -/
theorem term_eq (X : S8x96x224x224.Idx → EReal) : Reference.term X = Array.result X := by
  funext j
  obtain ⟨b, c, h, w, rfl⟩ : ∃ (b : Fin 8) (c : Fin 96) (h w : Fin 112), j = ValueIdx.ix4 b c h w :=
    ⟨j 0, j 1, j 2, j 3, ValueIdx.eq_ix4 j⟩
  rw [Reference.term_apply, Fin.sum_univ_two, ← pool_eq _ w, ← pool_eq _ w]
  rfl

end Cert.Agree

end
-- ==== Proof.lean ====
/- THE CLAIM.  The frames of the kernel's two readings are the generated ones; the reference's comes from its run; the
   idealized kernel is the printed one, so it is preserved; and both idealized programs compute `Cert.Array.result` of
   the argument (Proof.Array for the kernel, Proof.Agree for the reference). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference keeps its argument, and no semaphore counter is left raised: it has none. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the two idealized programs end with equal results. -/
theorem algebraic : Cert.algebraic_KernelIdeal_ReferenceIdeal := by
  intro m ρ m' ρ' _ hagree
  refine ⟨fun c => Cert.Array.result (m ((c.tc : Thread Cert.KernelIdeal.nD Cert.KernelIdeal.τ).loc
    Cert.KernelIdeal.main_arg0)), Cert.Array.run m ρ, ?_⟩
  refine (θ_run Cert.ReferenceIdeal.defs _ _).mono (fun _ h c => ⟨(h c).1.trans ?_, (h c).2⟩)
    (Cert.ReferenceIdeal.Value.run (F := Ideal) m' ρ')
  exact (Cert.Agree.term_eq _).trans (congrArg Cert.Array.result (hagree c))

/-- Every claim of the certificate, with the side conditions the programs state. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_reference, trivial,
  algebraic⟩

end Cert.Proof

end
